-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S32768x256 : Shape := ⟨2, ![32768, 256]⟩
abbrev S1024x256 : Shape := ⟨2, ![1024, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S32768x256 .f32) (main_arg1 : FVec F S1024x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S32768x256 : Shape := ⟨2, ![32768, 256]⟩
abbrev S1024x256 : Shape := ⟨2, ![1024, 256]⟩
abbrev S_ : Shape := ⟨0, ![]⟩
abbrev S32768 : Shape := ⟨1, ![32768]⟩
abbrev S32768x1 : Shape := ⟨2, ![32768, 1]⟩
abbrev S1x1 : Shape := ⟨2, ![1, 1]⟩
abbrev S32768x1024 : Shape := ⟨2, ![32768, 1024]⟩
abbrev S2048x256 : Shape := ⟨2, ![2048, 256]⟩
abbrev S2048x1 : Shape := ⟨2, ![2048, 1]⟩
abbrev S2048x1024 : Shape := ⟨2, ![2048, 1024]⟩
abbrev S1024 : Shape := ⟨1, ![1024]⟩
abbrev S1x1024 : Shape := ⟨2, ![1, 1024]⟩
abbrev S2048 : Shape := ⟨1, ![2048]⟩
abbrev S1x2048x256 : Shape := ⟨3, ![1, 2048, 256]⟩
abbrev S1 : Shape := ⟨1, ![1]⟩
abbrev S1x1x1 : Shape := ⟨3, ![1, 1, 1]⟩

abbrev nBuf : Space → Nat
  | .hbm => 12
  | .vmem => 10
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S32768x256, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S32768x256, .f32⟩
  | .hbm, ⟨7, _⟩ => ⟨S1x1, .f32⟩
  | .hbm, ⟨8, _⟩ => ⟨S32768x1024, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x1, .f32⟩
  | .local _ .vmem, ⟨3, _⟩ => ⟨S2048x1, .f32⟩
  | .local _ .vmem, ⟨4, _⟩ => ⟨S1024x256, .f32⟩
  | .local _ .vmem, ⟨5, _⟩ => ⟨S2048x256, .f32⟩
  | .local _ .vmem, ⟨6, _⟩ => ⟨S2048x256, .f32⟩
  | .local _ .vmem, ⟨7, _⟩ => ⟨S1x1, .f32⟩
  | .local _ .vmem, ⟨8, _⟩ => ⟨S2048x1024, .f32⟩
  | .local _ .vmem, ⟨9, _⟩ => ⟨S2048x1024, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0_0 : Ref sig .tc := ⟨.hbm, 6, rfl⟩
abbrev main_call0_v3_1 : Ref sig .tc := ⟨.hbm, 7, rfl⟩
abbrev main_v0_2 : Ref sig .tc := ⟨.hbm, 8, rfl⟩
abbrev main_call0_v4 : Ref sig .tc := ⟨.hbm, 9, rfl⟩
abbrev main_call0_cst_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v93 : BitVec 1 := Scalar.cmpi .eq arg0 c0_i32
  let v94 : BitVec 32 := Scalar.extui v93
  let c0_i32_38 : BitVec 32 := 0#32
  let v95 : BitVec 1 := Scalar.cmpi .ne v94 c0_i32_38
  v95

def k0_cond2 (i : grid0.Coords) : BitVec 1 :=
  let arg0 : BitVec 32 := BitVec.ofNat 32 (i 0).val
  let c0_i32_39 : BitVec 32 := 0#32
  let v96 : BitVec 1 := Scalar.cmpi .ne arg0 c0_i32_39
  let v97 : BitVec 32 := Scalar.extui v96
  let c0_i32_40 : BitVec 32 := 0#32
  let v98 : BitVec 1 := Scalar.cmpi .ne v97 c0_i32_40
  v98

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x256 : Shape := ⟨2, ![32768, 256]⟩
abbrev S1024x256 : Shape := ⟨2, ![1024, 256]⟩
abbrev S_ : Shape := ⟨0, ![]⟩
abbrev S32768 : Shape := ⟨1, ![32768]⟩
abbrev S32768x1 : Shape := ⟨2, ![32768, 1]⟩
abbrev S256x1024 : Shape := ⟨2, ![256, 1024]⟩
abbrev S32768x1024 : Shape := ⟨2, ![32768, 1024]⟩
abbrev S1024 : Shape := ⟨1, ![1024]⟩
abbrev S1x1024 : Shape := ⟨2, ![1, 1024]⟩
abbrev S32768x4 : Shape := ⟨2, ![32768, 4]⟩
abbrev S32768x4x1 : Shape := ⟨3, ![32768, 4, 1]⟩
abbrev S32768x4x2 : Shape := ⟨3, ![32768, 4, 2]⟩
abbrev S1 : Shape := ⟨1, ![1]⟩
abbrev S1x1x1 : Shape := ⟨3, ![1, 1, 1]⟩
abbrev S32768x4x256 : Shape := ⟨3, ![32768, 4, 256]⟩

abbrev nBuf : Space → Nat
  | .hbm => 92
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S32768x256, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S256x1024, .f32⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S1024x256, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x4, .f32⟩
  | .hbm, ⟨21, _⟩ => ⟨S32768x4, .i32⟩
  | .hbm, ⟨22, _⟩ => ⟨S_, .f32⟩
  | .hbm, ⟨23, _⟩ => ⟨S32768x1024, .f32⟩
  | .hbm, ⟨24, _⟩ => ⟨S32768, .i32⟩
  | .hbm, ⟨25, _⟩ => ⟨S32768x1, .i32⟩
  | .hbm, ⟨26, _⟩ => ⟨S_, .i32⟩
  | .hbm, ⟨27, _⟩ => ⟨S32768x1, .i32⟩
  | .hbm, ⟨28, _⟩ => ⟨S32768x1, .i1⟩
  | .hbm, ⟨29, _⟩ => ⟨S_, .i32⟩
  | .hbm, ⟨30, _⟩ => ⟨S32768x1, .i32⟩
  | .hbm, ⟨31, _⟩ => ⟨S32768x1, .i32⟩
  | .hbm, ⟨32, _⟩ => ⟨S32768x1, .i32⟩
  | .hbm, ⟨33, _⟩ => ⟨S_, .i32⟩
  | .hbm, ⟨34, _⟩ => ⟨S32768x4, .i32⟩
  | .hbm, ⟨35, _⟩ => ⟨S32768x4, .i1⟩
  | .hbm, ⟨36, _⟩ => ⟨S_, .i32⟩
  | .hbm, ⟨37, _⟩ => ⟨S32768x4, .i32⟩
  | .hbm, ⟨38, _⟩ => ⟨S32768x4, .i32⟩
  | .hbm, ⟨39, _⟩ => ⟨S32768x4, .i32⟩
  | .hbm, ⟨40, _⟩ => ⟨S32768x4, .i32⟩
  | .hbm, ⟨41, _⟩ => ⟨S32768x4x1, .i32⟩
  | .hbm, ⟨42, _⟩ => ⟨S32768x4x1, .i32⟩
  | .hbm, ⟨43, _⟩ => ⟨S32768x4x2, .i32⟩
  | .hbm, ⟨44, _⟩ => ⟨S_, .f32⟩
  | .hbm, ⟨45, _⟩ => ⟨S32768x4, .f32⟩
  | .hbm, ⟨46, _⟩ => ⟨S32768x1024, .f32⟩
  | .hbm, ⟨47, _⟩ => ⟨S_, .i32⟩
  | .hbm, ⟨48, _⟩ => ⟨S32768x4, .i32⟩
  | .hbm, ⟨49, _⟩ => ⟨S32768x4, .i1⟩
  | .hbm, ⟨50, _⟩ => ⟨S_, .i32⟩
  | .hbm, ⟨51, _⟩ => ⟨S32768x4, .i32⟩
  | .hbm, ⟨52, _⟩ => ⟨S32768x4, .i32⟩
  | .hbm, ⟨53, _⟩ => ⟨S32768x4, .i32⟩
  | .hbm, ⟨54, _⟩ => ⟨S32768x4x1, .i32⟩
  | .hbm, ⟨55, _⟩ => ⟨S1, .i32⟩
  | .hbm, ⟨56, _⟩ => ⟨S_, .i32⟩
  | .hbm, ⟨57, _⟩ => ⟨S32768x4x1, .i32⟩
  | .hbm, ⟨58, _⟩ => ⟨S32768x4x1, .i1⟩
  | .hbm, ⟨59, _⟩ => ⟨S1x1x1, .i32⟩
  | .hbm, ⟨60, _⟩ => ⟨S32768x4x1, .i32⟩
  | .hbm, ⟨61, _⟩ => ⟨S32768x4x1, .i1⟩
  | .hbm, ⟨62, _⟩ => ⟨S32768x4x1, .i1⟩
  | .hbm, ⟨63, _⟩ => ⟨S_, .i1⟩
  | .hbm, ⟨64, _⟩ => ⟨S32768x4, .i1⟩
  | .hbm, ⟨65, _⟩ => ⟨S32768x4x256, .f32⟩
  | .hbm, ⟨66, _⟩ => ⟨S32768x4x256, .i1⟩
  | .hbm, ⟨67, _⟩ => ⟨S_, .f32⟩
  | .hbm, ⟨68, _⟩ => ⟨S32768x4x256, .f32⟩
  | .hbm, ⟨69, _⟩ => ⟨S32768x4x256, .f32⟩
  | .hbm, ⟨70, _⟩ => ⟨S_, .f32⟩
  | .hbm, ⟨71, _⟩ => ⟨S32768x256, .f32⟩
  | .hbm, ⟨72, _⟩ => ⟨S_, .f32⟩
  | .hbm, ⟨73, _⟩ => ⟨S32768x256, .f32⟩
  | .hbm, ⟨74, _⟩ => ⟨S32768x256, .f32⟩
  | .hbm, ⟨75, _⟩ => ⟨S32768x256, .f32⟩
  | .hbm, ⟨76, _⟩ => ⟨S32768x256, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S32768x256, .f32⟩
  | .hbm, ⟨82, _⟩ => ⟨S32768x256, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S32768x256, .f32⟩
  | .hbm, ⟨91, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_cst : Ref sig .tc := ⟨.hbm, 67, rfl⟩
abbrev main_call0_v15 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_9 : Ref sig .tc := ⟨.hbm, 77, rfl⟩
abbrev main_v40 : Ref sig .tc := ⟨.hbm, 78, rfl⟩
abbrev main_cst_10 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_11 : Ref sig .tc := ⟨.hbm, 83, rfl⟩
abbrev main_v44 : Ref sig .tc := ⟨.hbm, 84, rfl⟩
abbrev main_cst_12 : Ref sig .tc := ⟨.hbm, 85, rfl⟩
abbrev main_v45 : Ref sig .tc := ⟨.hbm, 86, rfl⟩
abbrev main_cst_13 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩

abbrev nD : Nat := 1
abbrev τ : Topo := Topo.v7x

variable {F : FTy → Type} [FloatOps F]
-- ==== Proof.Selection.lean ====
/-
  Selection of the k least entries of a row. The entries of a row `d` are ordered by value and then by position; `rank d e` counts the entries before entry `e`
  and `pick d k` is the entry of rank `k`. Two procedures are shown to follow that order: rounds that each take the least remaining value at its first position
  and mask it, and a stable sort by descending `-d`.
-/
module

public import Idealize.ShloMosaic.Lib.SortFacts
public import Idealize.ShloMosaic.PureOps.Ideal
public import Mathlib.Data.EReal.Operations

@[expose] public section

noncomputable section

namespace Cert.Proof.Selection

open Idealize.ShloMosaic

variable {n : ℕ}

/-- Entry `f` stands before entry `e`: its value is smaller, or the values are equal and its position is smaller. -/
def Before (d : Fin n → EReal) (f e : Fin n) : Prop := d f < d e ∨ (d f = d e ∧ f < e)

/-- No column is before itself. -/
theorem Before.irrefl (d : Fin n → EReal) (e : Fin n) : ¬Before d e e := by
  rintro (h | ⟨-, h⟩) <;> exact absurd h (lt_irrefl _)

/-- The order of columns is transitive. -/
theorem Before.trans {d : Fin n → EReal} {a b c : Fin n} (hab : Before d a b) (hbc : Before d b c) : Before d a c := by
  rcases hab with h | ⟨e, h⟩ <;> rcases hbc with h' | ⟨e', h'⟩
  · exact Or.inl (h.trans h')
  · exact Or.inl (e' ▸ h)
  · exact Or.inl (e ▸ h')
  · exact Or.inr ⟨e.trans e', h.trans h'⟩

/-- Of two different columns one is before the other. -/
theorem Before.total {d : Fin n → EReal} {a b : Fin n} (h : a ≠ b) : Before d a b ∨ Before d b a := by
  rcases lt_trichotomy (d a) (d b) with h1 | h1 | h1
  · exact Or.inl (Or.inl h1)
  · rcases lt_or_gt_of_ne h with h2 | h2
    · exact Or.inl (Or.inr ⟨h1, h2⟩)
    · exact Or.inr (Or.inr ⟨h1.symm, h2⟩)
  · exact Or.inr (Or.inl h1)

open Classical in
/-- The number of entries that stand before entry `e`. -/
def rank (d : Fin n → EReal) (e : Fin n) : ℕ := (Finset.univ.filter fun f => Before d f e).card

/-- A rank is less than the number of columns. -/
theorem rank_lt (d : Fin n → EReal) (e : Fin n) : rank d e < n := by
  classical
  have h : (Finset.univ.filter fun f => Before d f e) ⊂ Finset.univ := by
    refine (Finset.ssubset_iff_of_subset (Finset.subset_univ _)).mpr ⟨e, Finset.mem_univ _, ?_⟩
    simpa using Before.irrefl d e
  simpa [rank] using Finset.card_lt_card h

/-- An entry that stands before another has the smaller rank. -/
theorem rank_lt_rank {d : Fin n → EReal} {f e : Fin n} (h : Before d f e) : rank d f < rank d e := by
  classical
  refine Finset.card_lt_card ((Finset.ssubset_iff_of_subset fun x hx => ?_).mpr ⟨f, ?_, ?_⟩)
  · simp only [Finset.mem_filter, Finset.mem_univ, true_and] at hx ⊢
    exact hx.trans h
  · simpa using h
  · simpa using Before.irrefl d f

/-- Different columns have different ranks. -/
theorem rank_injective (d : Fin n → EReal) : Function.Injective (rank d) := fun a b hab => by
  by_contra hne
  rcases Before.total (d := d) hne with h | h <;> have := rank_lt_rank h <;> omega

/-- A column is before another exactly when its rank is less. -/
theorem before_iff_rank (d : Fin n → EReal) (f e : Fin n) : Before d f e ↔ rank d f < rank d e := by
  refine ⟨rank_lt_rank, fun h => ?_⟩
  rcases eq_or_ne f e with rfl | hne
  · omega
  · rcases Before.total (d := d) hne with h1 | h1
    · exact h1
    · have := rank_lt_rank h1; omega

/-- Every rank below `n` is taken. -/
theorem exists_rank (d : Fin n → EReal) (k : Fin n) : ∃ e, rank d e = k.val := by
  have hi : Function.Injective fun e : Fin n => (⟨rank d e, rank_lt d e⟩ : Fin n) := fun a b hab =>
    rank_injective d (congrArg Fin.val hab)
  obtain ⟨e, he⟩ := (Finite.injective_iff_surjective.mp hi) k
  exact ⟨e, congrArg Fin.val he⟩

/-- The entry of rank `k`. -/
def pick (d : Fin n → EReal) (k : Fin n) : Fin n := (exists_rank d k).choose

/-- The column of rank `k` has rank `k`. -/
theorem rank_pick (d : Fin n → EReal) (k : Fin n) : rank d (pick d k) = k.val := (exists_rank d k).choose_spec

/-- A column has rank `k` exactly when it is the column of rank `k`. -/
theorem rank_eq_iff (d : Fin n → EReal) (k e : Fin n) : rank d e = k.val ↔ e = pick d k :=
  ⟨fun h => rank_injective d (h.trans (rank_pick d k).symm), fun h => h ▸ rank_pick d k⟩

/-- Columns of different ranks differ. -/
theorem pick_injective (d : Fin n → EReal) : Function.Injective (pick d) := fun a b h =>
  Fin.ext ((rank_pick d a).symm.trans ((congrArg (rank d) h).trans (rank_pick d b)))

/-! ## Rounds of the least remaining value -/

/-- The row after `k` rounds: the entries of rank below `k` masked with the greatest value. -/
def masked (d : Fin n → EReal) (k : ℕ) (e : Fin n) : EReal := if rank d e < k then ⊤ else d e

/-- The least remaining value after `k` rounds is that of the entry of rank `k`. -/
theorem fold_min_masked {d : Fin n → EReal} (k : Fin n) :
    (Finset.univ.fold min ⊤ (masked d k.val)) = d (pick d k) := by
  apply le_antisymm
  · refine (Finset.fold_min_le _).mpr (Or.inr ⟨pick d k, Finset.mem_univ _, ?_⟩)
    unfold masked
    rw [rank_pick, if_neg (lt_irrefl _)]
  · refine Finset.le_fold_min _ |>.mpr ⟨le_top, fun e _ => ?_⟩
    unfold masked
    split
    · exact le_top
    · next h =>
      by_contra hlt
      have hb : Before d e (pick d k) := Or.inl (not_le.mp hlt)
      have := rank_lt_rank hb
      rw [rank_pick] at this
      exact h this

/-- The least position at which the least remaining value stands is the entry of rank `k`, its number written as an extended real and `B` standing for none. -/
theorem fold_min_position {d : Fin n → EReal} (hd : ∀ e, d e ≠ ⊤) (k : Fin n) (B : EReal) (hB : ∀ e : Fin n, ((e.val : ℝ) : EReal) ≤ B) :
    (Finset.univ.fold min ⊤ fun e : Fin n => if masked d k.val e = d (pick d k) then ((e.val : ℝ) : EReal) else B)
      = (((pick d k).val : ℝ) : EReal) := by
  have hp : masked d k.val (pick d k) = d (pick d k) := by unfold masked; rw [rank_pick, if_neg (lt_irrefl _)]
  apply le_antisymm
  · refine (Finset.fold_min_le _).mpr (Or.inr ⟨pick d k, Finset.mem_univ _, ?_⟩)
    rw [if_pos hp]
  · refine Finset.le_fold_min _ |>.mpr ⟨le_top, fun e _ => ?_⟩
    split
    · next h =>
      unfold masked at h
      split at h
      · exact absurd h.symm (hd _)
      · next hr =>
        rw [EReal.coe_le_coe_iff, Nat.cast_le]
        by_contra hlt
        have hb : Before d e (pick d k) := Or.inr ⟨h, Fin.lt_def.mpr (not_le.mp hlt)⟩
        have := rank_lt_rank hb
        rw [rank_pick] at this
        exact hr this
    · exact hB _

/-- Masking the entry of rank `k` after `k` rounds is one more round. -/
theorem masked_succ (d : Fin n → EReal) (k e : Fin n) : (if e = pick d k then ⊤ else masked d k.val e) = masked d (k.val + 1) e := by
  unfold masked
  by_cases h : rank d e = k.val
  · rw [if_pos ((rank_eq_iff d k e).mp h), if_pos (by omega)]
  · rw [if_neg fun h' => h ((rank_eq_iff d k e).mpr h')]
    by_cases h2 : rank d e < k.val
    · rw [if_pos h2, if_pos (by omega)]
    · rw [if_neg h2, if_neg (by omega)]

/-- Before the first round nothing is masked. -/
theorem masked_zero (d : Fin n → EReal) (e : Fin n) : masked d 0 e = d e := by
  unfold masked; rw [if_neg (Nat.not_lt_zero _)]

/-- The marks after `k` rounds: one at the entries of rank below `k`, zero elsewhere. -/
def marks (d : Fin n → EReal) (k : ℕ) (e : Fin n) : EReal := if rank d e < k then 1 else 0

/-- Before the first round nothing is marked. -/
theorem marks_zero (d : Fin n → EReal) (e : Fin n) : marks d 0 e = 0 := by
  unfold marks; rw [if_neg (Nat.not_lt_zero _)]

/-- Adding one at the entry of rank `k` to the marks of `k` rounds makes those of one round more. -/
theorem marks_succ (d : Fin n → EReal) (k e : Fin n) : marks d k.val e + (if e = pick d k then 1 else 0) = marks d (k.val + 1) e := by
  unfold marks
  by_cases h : rank d e = k.val
  · rw [if_pos ((rank_eq_iff d k e).mp h), if_neg (by omega), if_pos (by omega), zero_add]
  · rw [if_neg fun h' => h ((rank_eq_iff d k e).mpr h'), add_zero]
    by_cases h2 : rank d e < k.val
    · rw [if_pos h2, if_pos (by omega)]
    · rw [if_neg h2, if_neg (by omega)]

/-- An entry carries a mark exactly when it is one of the first `k` picks. -/
theorem marks_eq (d : Fin n → EReal) {k : ℕ} (hk : k ≤ n) (e : Fin n) :
    marks d k e = if ∃ i : Fin k, e = pick d (i.castLE hk) then 1 else 0 := by
  unfold marks
  refine if_congr ⟨fun h => ⟨⟨rank d e, h⟩, (rank_eq_iff d _ e).mp rfl⟩, ?_⟩ rfl rfl
  rintro ⟨i, rfl⟩
  rw [rank_pick]
  exact i.isLt

/-- A sum weighted by the marks is the sum over the first `k` picks. -/
theorem sum_marks_mul (d : Fin n → EReal) {k : ℕ} (hk : k ≤ n) (x : Fin n → EReal) :
    ∑ e, marks d k e * x e = ∑ i : Fin k, x (pick d (i.castLE hk)) := by
  classical
  have h1 : ∀ e, marks d k e * x e = if e ∈ Finset.univ.image (fun i : Fin k => pick d (i.castLE hk)) then x e else 0 := fun e => by
    rw [marks_eq d hk]
    simp only [Finset.mem_image, Finset.mem_univ, true_and]
    by_cases h : ∃ i : Fin k, e = pick d (i.castLE hk)
    · rw [if_pos h, if_pos (by obtain ⟨i, hi⟩ := h; exact ⟨i, hi.symm⟩), one_mul]
    · rw [if_neg h, if_neg (by rintro ⟨i, hi⟩; exact h ⟨i, hi.symm⟩), zero_mul]
  rw [Finset.sum_congr rfl fun e _ => h1 e, Finset.sum_ite_mem, Finset.univ_inter, Finset.sum_image]
  intro a _ b _ hab
  exact Fin.castLE_injective hk (pick_injective d hab)

/-! ## The stable sort -/

/-- Inserting a position that precedes every listed one into a list in order, past the entries of strictly smaller value only, leaves the list in order. -/
theorem insert_pairwise {d : Fin n → EReal} {B : Fin n → Fin n → Bool} (hB : ∀ a b, B a b = true ↔ d a < d b) (a : Fin n) :
    ∀ l : List (Fin n), (∀ b ∈ l, a < b) → l.Pairwise (Before d) → (insertBefore B a l).Pairwise (Before d)
  | [], _, _ => by simp [insertBefore]
  | b :: l, ha, hl => by
    obtain ⟨hb, hl'⟩ := List.pairwise_cons.mp hl
    unfold insertBefore
    by_cases h : B b a = true
    · rw [if_pos h]
      refine List.pairwise_cons.mpr ⟨fun x hx => ?_, insert_pairwise hB a l (fun x hx => ha x (List.mem_cons_of_mem _ hx)) hl'⟩
      rcases List.mem_cons.mp ((perm_insertBefore _ a l).mem_iff.mp hx) with rfl | hx'
      · exact Or.inl ((hB _ _).mp h)
      · exact hb x hx'
    · rw [if_neg h]
      have hab : d a ≤ d b := not_lt.mp fun h' => h ((hB _ _).mpr h')
      have h0 : Before d a b := by
        rcases lt_or_eq_of_le hab with h1 | h1
        · exact Or.inl h1
        · exact Or.inr ⟨h1, ha b List.mem_cons_self⟩
      refine List.pairwise_cons.mpr ⟨fun x hx => ?_, hl⟩
      rcases List.mem_cons.mp hx with rfl | hx'
      · exact h0
      · exact h0.trans (hb x hx')

/-- The stable sort by value of a list of ascending positions is in order. -/
theorem stableSort_pairwise {d : Fin n → EReal} {B : Fin n → Fin n → Bool} (hB : ∀ a b, B a b = true ↔ d a < d b) :
    ∀ l : List (Fin n), l.Pairwise (· < ·) → (stableSort B l).Pairwise (Before d)
  | [], _ => by simp [stableSort]
  | a :: l, hl => by
    obtain ⟨ha, hl'⟩ := List.pairwise_cons.mp hl
    unfold stableSort
    exact insert_pairwise hB a _ (fun b hb => ha b ((perm_stableSort _ l).mem_iff.mp hb)) (stableSort_pairwise hB l hl')

/-- In a list of all the positions in order, the number of entries before the one at `k` is `k`. -/
theorem rank_of_sorted {d : Fin n → EReal} {l : List (Fin n)} (hp : l.Perm (List.finRange n)) (hs : l.Pairwise (Before d)) (k : ℕ) (hk : k < l.length) :
    rank d l[k] = k := by
  have hmono : ∀ i j (hi : i < l.length) (hj : j < l.length), i < j → Before d l[i] l[j] := fun i j hi hj hij =>
    List.pairwise_iff_getElem.mp hs i j hi hj hij
  have hlen : l.length = n := hp.length_eq.trans List.length_finRange
  -- a strictly increasing map of the positions into themselves is the identity
  have hlt : ∀ i (hi : i < l.length), rank d l[i] < n := fun i hi => rank_lt d _
  have hge : ∀ i (hi : i < l.length), i ≤ rank d l[i] := by
    intro i
    induction i with
    | zero => intro _; exact Nat.zero_le _
    | succ i ih =>
      intro hi
      have h1 := ih (by omega)
      have h2 := rank_lt_rank (hmono i (i + 1) (by omega) hi (by omega))
      omega
  have hle : ∀ j i (hi : i < l.length), i + j + 1 = n → rank d l[i] + j + 1 ≤ n := by
    intro j
    induction j with
    | zero => intro i hi _; have := hlt i hi; omega
    | succ j ih =>
      intro i hi hij
      have h1 := ih (i + 1) (by omega) (by omega)
      have h2 := rank_lt_rank (hmono i (i + 1) hi (by omega) (by omega))
      omega
  have h1 := hge k hk
  have h2 := hle (n - k - 1) k hk (by omega)
  omega

/-- The position that a stable sort by value puts at `k` is the entry of rank `k`. -/
theorem sortedFrom_eq_pick {d : Fin n → EReal} {B : Fin n → Fin n → Bool} (hB : ∀ a b, B a b = true ↔ d a < d b) (k : Fin n) :
    sortedFrom B k = pick d k := by
  refine (rank_eq_iff d k _).mp ?_
  exact rank_of_sorted (perm_stableSort B _) (stableSort_pairwise hB _ (List.pairwise_lt_finRange n)) k.val _

end Cert.Proof.Selection

end
-- ==== Proof.Literals.lean ====
/-
  The values of the float constants that the kernel and the reference name, as extended reals.
-/
module

public import Idealize.ShloMosaic.Lib.IdealHost

@[expose] public section

noncomputable section

namespace Cert.Proof.Literals

open Idealize.ShloMosaic

/-- The largest bit pattern without a fraction is positive infinity. -/
theorem ofBits_inf : Ideal.ofBits .f32 0x7F800000#32 = ⊤ := by
  simp [Ideal.ofBits, Ideal.ieee]

/-- The word of two. -/
theorem ofBits_two : Ideal.ofBits .f32 0x40000000#32 = ((2 : ℝ) : EReal) := by
  simp [Ideal.ofBits, Ideal.ieee, -EReal.coe_mul]; norm_num

/-- The word of four. -/
theorem ofBits_four : Ideal.ofBits .f32 0x40800000#32 = ((4 : ℝ) : EReal) := by
  simp [Ideal.ofBits, Ideal.ieee, -EReal.coe_mul]; norm_num

/-- The word of a quarter. -/
theorem ofBits_quarter : Ideal.ofBits .f32 0x3E800000#32 = ((1 / 4 : ℝ) : EReal) := by
  simp [Ideal.ofBits, Ideal.ieee, -EReal.coe_mul]; norm_num

/-- The word of 1024, the number of codes. -/
theorem ofBits_columns : Ideal.ofBits .f32 0x44800000#32 = ((1024 : ℝ) : EReal) := by
  simp [Ideal.ofBits, Ideal.ieee, -EReal.coe_mul]; norm_num

/-- The number of entries of the first argument. -/
theorem ofBits_entries : Ideal.ofBits .f32 0x4B000000#32 = ((8388608 : ℝ) : EReal) := by
  simp [Ideal.ofBits, Ideal.ieee, -EReal.coe_mul]

/-- One and a quarter over the number of entries of the first argument. -/
theorem ofBits_scale : Ideal.ofBits .f32 0x34200000#32 = ((5 / 4 / 8388608 : ℝ) : EReal) := by
  simp [Ideal.ofBits, Ideal.ieee, -EReal.coe_mul]; norm_num

end Cert.Proof.Literals

end
-- ==== Proof.Block.lean ====
/-
  What the kernel computes from one block of 2048 rows: the distances of every row to the 1024 codes, the marks at the four nearest codes of each row, the
  product of the marks with the codebook, and the block's sum of squared differences.
-/
module

public import proofs.«01_k».proof.Proof.Gen.KernelIdeal.Skeleton
public import proofs.«01_k».proof.Proof.Selection
public import proofs.«01_k».proof.Proof.Literals
public import Idealize.ShloMosaic.Lib.Pointwise

@[expose] public section

set_option maxRecDepth 16384

noncomputable section

namespace Cert.Proof.Block

open Cert.KernelIdeal Cert.KernelIdeal.Gen Idealize.ShloMosaic
open Cert.Proof.Selection

/-! ## One round, on a whole block -/

/-- The number of the first column that holds its row's least entry, row by row. -/
def roundPos (M : FVec Ideal S2048x1024 .f32) : FVec Ideal S2048 .f32 :=
  multiReduction .minimumf [1] S2048
    (select
      (cmpf .oeq M (broadcastTo S2048x1024 (shapeCast S2048x1 (multiReduction .minimumf [1] S2048 M 0x7F800000#32 reduces_S2048x1024_S2048 (.inl rfl) rfl)
        shapeCasts_S2048_S2048x1) broadcasts_S2048x1_S2048x1024))
      (k0_pay6 (F := Ideal)) (broadcast S2048x1024 (Scalar.ofBits .f32 0x44800000#32)))
    0x7F800000#32 reduces_S2048x1024_S2048 (.inl rfl) rfl

/-- The mask of the columns whose number is `p`'s entry, row by row. -/
def roundHit (p : FVec Ideal S2048 .f32) : IVec S2048x1024 1 :=
  cmpf .oeq (k0_pay6 (F := Ideal)) (broadcastTo S2048x1024 (shapeCast S2048x1 p shapeCasts_S2048_S2048x1) broadcasts_S2048x1_S2048x1024)

/-- The marks with one added where the mask is set. -/
def roundMarks (K : FVec Ideal S2048x1024 .f32) (h : IVec S2048x1024 1) : FVec Ideal S2048x1024 .f32 :=
  addf K (select h (broadcast S2048x1024 (Scalar.ofBits .f32 0x3F800000#32)) (broadcast S2048x1024 (Scalar.ofBits .f32 0x00000000#32)))

/-- The entries with infinity where the mask is set. -/
def roundMask (M : FVec Ideal S2048x1024 .f32) (h : IVec S2048x1024 1) : FVec Ideal S2048x1024 .f32 :=
  select h (broadcast S2048x1024 (Scalar.ofBits .f32 0x7F800000#32)) M

/-- Column `e`'s number is `e`. -/
theorem pay6_apply (r : Fin 2048) (e : Fin 1024) : k0_pay6 (F := Ideal) (ix2 r e) = ((e.val : ℝ) : EReal) := by
  unfold k0_pay6
  pointwise
  show (((BitVec.ofNat 32 e.val).toInt : ℝ) : EReal) = _
  have h : (BitVec.ofNat 32 e.val).toInt = (e.val : ℤ) := by
    have := e.isLt
    rw [BitVec.toInt_eq_toNat_of_lt (by rw [BitVec.toNat_ofNat]; omega), BitVec.toNat_ofNat]
    omega
  rw [h]
  norm_cast

variable {d : Fin 2048 → Fin 1024 → EReal} {k : Fin 1024}

/-- After `k` rounds on row `r`, the position found is that of rank `k`. -/
theorem roundPos_apply {M : FVec Ideal S2048x1024 .f32} (hd : ∀ r e, d r e ≠ ⊤) (hM : ∀ r e, M (ix2 r e) = masked (d r) k.val e) (r : Fin 2048) :
    roundPos M (ix1 r) = (((pick (d r) k).val : ℝ) : EReal) := by
  unfold roundPos
  pointwise
  rw [Literals.ofBits_inf, Literals.ofBits_columns]
  simp only [hM, pay6_apply]
  rw [fold_min_masked k]
  exact fold_min_position (hd r) k _ fun e => by
    have := e.isLt
    rw [EReal.coe_le_coe_iff]
    exact_mod_cast Nat.le_of_lt this

/-- Two column numbers agree as extended reals exactly when the columns do. -/
theorem column_eq_iff (a b : Fin 1024) : (((a.val : ℝ) : EReal) = ((b.val : ℝ) : EReal)) ↔ a = b := by
  rw [EReal.coe_eq_coe_iff, Nat.cast_inj, Fin.ext_iff]

/-- The mask of round `k` is set at the entry of rank `k` alone. -/
theorem select_roundHit {p : FVec Ideal S2048 .f32} (hp : ∀ r, p (ix1 r) = (((pick (d r) k).val : ℝ) : EReal)) (A B : FVec Ideal S2048x1024 .f32)
    (r : Fin 2048) (e : Fin 1024) : select (roundHit p) A B (ix2 r e) = if e = pick (d r) k then A (ix2 r e) else B (ix2 r e) := by
  unfold roundHit
  pointwise
  rw [hp, pay6_apply]
  exact if_congr (column_eq_iff _ _) rfl rfl

/-- A round adds one at the picked column of each row. -/
theorem roundMarks_apply {K : FVec Ideal S2048x1024 .f32} {p : FVec Ideal S2048 .f32} (hp : ∀ r, p (ix1 r) = (((pick (d r) k).val : ℝ) : EReal))
    (hK : ∀ r e, K (ix2 r e) = marks (d r) k.val e) (r : Fin 2048) (e : Fin 1024) :
    roundMarks K (roundHit p) (ix2 r e) = marks (d r) (k.val + 1) e := by
  unfold roundMarks
  rw [addf_apply, select_roundHit hp, hK, ← marks_succ]
  pointwise

/-- A round sets the distance at the picked column of each row to infinity. -/
theorem roundMask_apply {M : FVec Ideal S2048x1024 .f32} {p : FVec Ideal S2048 .f32} (hp : ∀ r, p (ix1 r) = (((pick (d r) k).val : ℝ) : EReal))
    (hM : ∀ r e, M (ix2 r e) = masked (d r) k.val e) (r : Fin 2048) (e : Fin 1024) :
    roundMask M (roundHit p) (ix2 r e) = masked (d r) (k.val + 1) e := by
  unfold roundMask
  rw [select_roundHit hp, hM, ← masked_succ]
  pointwise
  rw [Literals.ofBits_inf]

/-! ## The block's payloads -/

variable (z : Vec Ideal S2048x256 .f32) (cb : Vec Ideal S1024x256 .f32) (zn : Vec Ideal S2048x1 .f32)

/-- The distance of a row to a code: the row's given squared norm, less twice the product, plus the code's squared norm. -/
def dist (r : Fin 2048) (e : Fin 1024) : EReal :=
  zn (ix2 r 0) - ((2 : ℝ) : EReal) * (∑ k, z (ix2 r k) * cb (ix2 e k)) + ∑ k, cb (ix2 e k) * cb (ix2 e k)

/-- The block's distances, read at an index. -/
theorem pay5_apply (r : Fin 2048) (e : Fin 1024) : k0_pay5 z cb zn (ix2 r e) = dist z cb zn r e := by
  unfold k0_pay5 dist
  pointwise
  rw [Literals.ofBits_two]

/-- The hits of the first round. -/
theorem pay7_eq : k0_pay7 z cb zn = roundHit (roundPos (k0_pay5 z cb zn)) := rfl
/-- The marks after the first round. -/
theorem pay8_eq : k0_pay8 z cb zn = roundMarks (broadcast S2048x1024 (Scalar.ofBits .f32 0x00000000#32)) (k0_pay7 z cb zn) := rfl
/-- The distances after the first round. -/
theorem pay9_eq : k0_pay9 z cb zn = roundMask (k0_pay5 z cb zn) (k0_pay7 z cb zn) := rfl
/-- The picked columns of the second round. -/
theorem pay10_eq : k0_pay10 z cb zn = roundPos (k0_pay9 z cb zn) := rfl
/-- The further rounds, as a composition of single ones. -/
theorem pay11_eq (K M : FVec Ideal S2048x1024 .f32) (p : FVec Ideal S2048 .f32) :
    k0_pay11 (k0_pay6 (F := Ideal)) K M p
      = roundMarks
          (roundMarks (roundMarks K (roundHit p)) (roundHit (roundPos (roundMask M (roundHit p)))))
          (roundHit (roundPos (roundMask (roundMask M (roundHit p)) (roundHit (roundPos (roundMask M (roundHit p))))))) := rfl

/-- The block of marks that the kernel stores. -/
def hot : FVec Ideal S2048x1024 .f32 := k0_pay11 (k0_pay6 (F := Ideal)) (k0_pay8 z cb zn) (k0_pay9 z cb zn) (k0_pay10 z cb zn)

/-- The kernel's marks are ones at the four nearest codes of each row, when no distance is infinite. -/
theorem hot_apply (hd : ∀ r e, dist z cb zn r e ≠ ⊤) (r : Fin 2048) (e : Fin 1024) :
    hot z cb zn (ix2 r e) = marks (dist z cb zn r) 4 e := by
  have h0 : ∀ r e, k0_pay5 z cb zn (ix2 r e) = masked (dist z cb zn r) 0 e := fun r e => by rw [pay5_apply, masked_zero]
  have k0 : ∀ r e, (broadcast S2048x1024 (Scalar.ofBits .f32 0x00000000#32) : FVec Ideal S2048x1024 .f32) (ix2 r e) = marks (dist z cb zn r) 0 e :=
    fun r e => by rw [marks_zero]; pointwise
  have p0 := roundPos_apply (k := 0) hd h0
  have h1 := roundMask_apply (k := 0) p0 h0
  have k1 := roundMarks_apply (k := 0) p0 k0
  have p1 := roundPos_apply (k := 1) hd h1
  have h2 := roundMask_apply (k := 1) p1 h1
  have k2 := roundMarks_apply (k := 1) p1 k1
  have p2 := roundPos_apply (k := 2) hd h2
  have h3 := roundMask_apply (k := 2) p2 h2
  have k3 := roundMarks_apply (k := 2) p2 k2
  have p3 := roundPos_apply (k := 3) hd h3
  have k4 := roundMarks_apply (k := 3) p3 k3
  unfold hot
  rw [pay11_eq]
  exact k4 r e

/-- The product of the marks with the codebook. -/
def product : FVec Ideal S2048x256 .f32 := k0_pay12 cb (k0_pay6 (F := Ideal)) (k0_pay8 z cb zn) (k0_pay9 z cb zn) (k0_pay10 z cb zn)

/-- The product of the marks with the codebook, read at an index. -/
theorem product_apply (r : Fin 2048) (j : Fin 256) : product z cb zn (ix2 r j) = ∑ e, hot z cb zn (ix2 r e) * cb (ix2 e j) := by
  unfold product k0_pay12
  pointwise
  rfl

/-- The mean of the codes that row `r` marks, one entry of it. -/
def quant (r : Fin 2048) (j : Fin 256) : EReal := (∑ e, hot z cb zn (ix2 r e) * cb (ix2 e j)) * ((1 / 4 : ℝ) : EReal)

/-- The block of the first result, for any product `v`. -/
theorem pay2_of (v : FVec Ideal S2048x256 .f32) (q : EReal) (r : Fin 2048) (j : Fin 256) :
    k0_pay2 z v q (ix2 r j) = z (ix2 r j) + (v (ix2 r j) * q - z (ix2 r j)) := by
  unfold k0_pay2 k0_pay1
  pointwise

/-- The block's sum of squared differences, for any product `v`. -/
theorem pay3_of (v : FVec Ideal S2048x256 .f32) (q : EReal) (i : S1x1.Idx) :
    k0_pay3 z v q i
      = ∑ r : Fin 2048, ∑ j : Fin 256, (v (ix2 r j) * q - z (ix2 r j)) * (v (ix2 r j) * q - z (ix2 r j)) := by
  unfold k0_pay3 k0_pay1
  pointwise

/-- The accumulating point adds its block's sum to what it reads, for any product `v`. -/
theorem pay4_of (v : FVec Ideal S2048x256 .f32) (q : EReal) (x : Vec Ideal S1x1 .f32) (i : S1x1.Idx) :
    k0_pay4 z v q x i = x i + k0_pay3 z v q i := by
  unfold k0_pay4
  idx_vars i
  pointwise

/-- The product, times the quarter that the kernel multiplies by, is the mean. -/
theorem product_quarter (r : Fin 2048) (j : Fin 256) :
    product z cb zn (ix2 r j) * (Scalar.ofBits (F := Ideal) .f32 0x3E800000#32) = quant z cb zn r j :=
  congrArg₂ (· * ·) (product_apply z cb zn r j) Literals.ofBits_quarter

/-- The block of the first result that the kernel stores. -/
theorem pay2_apply (r : Fin 2048) (j : Fin 256) :
    k0_pay2 z (product z cb zn) (Scalar.ofBits .f32 0x3E800000#32) (ix2 r j) = z (ix2 r j) + (quant z cb zn r j - z (ix2 r j)) :=
  (pay2_of z _ _ r j).trans (congrArg (fun q => z (ix2 r j) + (q - z (ix2 r j))) (product_quarter z cb zn r j))

/-- The block's sum of squared differences. -/
theorem pay3_apply (i : S1x1.Idx) :
    k0_pay3 z (product z cb zn) (Scalar.ofBits .f32 0x3E800000#32) i
      = ∑ r : Fin 2048, ∑ j : Fin 256, (quant z cb zn r j - z (ix2 r j)) * (quant z cb zn r j - z (ix2 r j)) :=
  (pay3_of z _ _ i).trans (Finset.sum_congr rfl fun r _ => Finset.sum_congr rfl fun j _ =>
    congrArg (fun q => (q - z (ix2 r j)) * (q - z (ix2 r j))) (product_quarter z cb zn r j))

end Cert.Proof.Block

end
-- ==== Proof.Spec.lean ====
/-
  The quantities that both programs compute, as plain functions of the two arguments: the squared distances of every row to every code, the mean of the four
  nearest codes of a row, and the sum of squared differences.
-/
module

public import proofs.«01_k».proof.KernelIdeal
public import proofs.«01_k».proof.Proof.Selection
public import Idealize.ShloMosaic.Lib.Pointwise

@[expose] public section

noncomputable section

namespace Cert.Proof.Spec

open Cert.KernelIdeal Idealize.ShloMosaic
open Cert.Proof.Selection

variable (z : FVec Ideal S32768x256 .f32) (cb : FVec Ideal S1024x256 .f32)

/-- The squared distance of row `r` to code `e`. -/
def dist (r : Fin 32768) (e : Fin 1024) : EReal :=
  (∑ k : Fin 256, z (ix2 r k) * z (ix2 r k)) - ((2 : ℝ) : EReal) * (∑ k : Fin 256, z (ix2 r k) * cb (ix2 e k)) + ∑ k : Fin 256, cb (ix2 e k) * cb (ix2 e k)

/-- Ones at the four codes nearest to row `r`, zeros elsewhere. -/
def hot (r : Fin 32768) (e : Fin 1024) : EReal := marks (dist z cb r) 4 e

/-- The mean of the four codes nearest to row `r`, one entry of it. -/
def mean (r : Fin 32768) (j : Fin 256) : EReal := (∑ e, hot z cb r e * cb (ix2 e j)) * ((1 / 4 : ℝ) : EReal)

/-- The row that the first result holds: the row of the argument plus its difference to the mean. -/
def out (r : Fin 32768) (j : Fin 256) : EReal := z (ix2 r j) + (mean z cb r j - z (ix2 r j))

/-- The sum of squared differences of row `r` to its mean. -/
def rowLoss (r : Fin 32768) : EReal := ∑ j : Fin 256, (mean z cb r j - z (ix2 r j)) * (mean z cb r j - z (ix2 r j))

/-- The sum of squared differences over the whole array. -/
def loss : EReal := ∑ r : Fin 32768, rowLoss z cb r

end Cert.Proof.Spec

end
-- ==== Proof.Arrays.lean ====
/-
  What the three result arrays of the kernel's program hold after its run, as functions of the arguments.
-/
module

public import proofs.«01_k».proof.Proof.Gen.KernelIdeal.Frame
public import proofs.«01_k».proof.Proof.Block
public import proofs.«01_k».proof.Proof.Spec
public import Idealize.ShloMosaic.Lib.Pipeline.Value
public import Idealize.ShloMosaic.Lib.Pipeline.ValueKit
public import Idealize.ShloMosaic.Lib.StableHlo.Run

@[expose] public section

set_option maxRecDepth 16384

noncomputable section

namespace Cert.Proof.Arrays

open Cert.KernelIdeal Cert.KernelIdeal.Gen Idealize.ShloMosaic Idealize.ShloMosaic.TcCoe Idealize.SL.Sem
open Idealize.ShloMosaic.Pipeline (Dat)
open Cert.Proof.Selection

variable (m : (ℓ : Loc nD τ sig) → Buf (Elt Ideal) ℓ) (ρ : Dev nD → PrngReg)

/-- The first argument on device `c`. -/
abbrev argZ (c : Dev nD) : FVec Ideal S32768x256 .f32 := m ((c.tc : Thread nD τ).loc main_arg0)
/-- The codebook on device `c`. -/
abbrev argC (c : Dev nD) : FVec Ideal S1024x256 .f32 := m ((c.tc : Thread nD τ).loc main_arg1)

/-- The row of the whole array that row `r` of block `t` is. -/
def row (t : Fin cfg0.N) (r : Fin 2048) : Fin 32768 :=
  ⟨t.val * 2048 + r.val, by have := lt_of_lt_of_eq t.isLt (show cfg0.N = 16 from N_0); omega⟩

/-- Block `t` of the first argument starts at block row `t`. -/
theorem index0 : ∀ t : Fin cfg0.N, win0_0.index t = ![t.val, 0] := (by decide +kernel : ∀ t : Fin grid0.N, win0_0.index t = ![t.val, 0])
/-- Block `t` of the squared norms starts at block row `t`. -/
theorem index1 : ∀ t : Fin cfg0.N, win0_1.index t = ![t.val, 0] := (by decide +kernel : ∀ t : Fin grid0.N, win0_1.index t = ![t.val, 0])
/-- Every grid point reads the whole codebook. -/
theorem index2 : ∀ t : Fin cfg0.N, win0_2.index t = ![0, 0] := (by decide +kernel : ∀ t : Fin grid0.N, win0_2.index t = ![0, 0])
/-- Block `t` of the first result starts at block row `t`. -/
theorem index3 : ∀ t : Fin cfg0.N, win0_3.index t = ![t.val, 0] := (by decide +kernel : ∀ t : Fin grid0.N, win0_3.index t = ![t.val, 0])
/-- Block `t` of the third result starts at block row `t`. -/
theorem index5 : ∀ t : Fin cfg0.N, win0_5.index t = ![t.val, 0] := (by decide +kernel : ∀ t : Fin grid0.N, win0_5.index t = ![t.val, 0])

/-- Block `t` of the first argument, at its coordinates. -/
theorem blockZ (c : Dev nD) (t : Fin cfg0.N) (r : Fin 2048) (k : Fin 256) :
    iblk m c 0 t (ix2 r k) = argZ m c (ix2 (row t r) k) := by
  refine Eq.trans (b := V m c main_arg0 (ix2 (row t r) k)) ?_ (congrFun (V_main_arg0 m c) _)
  blk_simp [iblk]
  congr 1
  blk_ext [index0, row]

/-- The codebook's one block is the codebook. -/
theorem blockC (c : Dev nD) (t : Fin cfg0.N) (e : Fin 1024) (k : Fin 256) :
    iblk m c 2 t (ix2 e k) = argC m c (ix2 e k) := by
  refine Eq.trans (b := V m c main_arg1 (ix2 e k)) ?_ (congrFun (V_main_arg1 m c) _)
  blk_simp [iblk]
  congr 1
  blk_ext [index2]

/-- The array of squared norms that the kernel's second window reads. -/
theorem norms_eq (c : Dev nD) :
    V m c main_call0_v2 = broadcastInDim S32768x1 ![0] bcast_S32768_S32768x1_0
      (Host.reduceAdd (mulf (argZ m c) (argZ m c)) (constant S_ .f32 0x00000000#32) reducesTo_S32768x256_S32768_d1 h_S_) := by
  show StableHlo.after (List.flatten [hostOps0]) _ _ = _
  after_results
  rfl

/-- Block `t` of the squared norms, at its coordinates. -/
theorem blockN (c : Dev nD) (t : Fin cfg0.N) (r : Fin 2048) :
    iblk m c 1 t (ix2 r 0) = ∑ k : Fin 256, argZ m c (ix2 (row t r) k) * argZ m c (ix2 (row t r) k) := by
  refine Eq.trans (b := V m c main_call0_v2 (ix2 (row t r) 0)) ?_ ?_
  · blk_simp [iblk]
    congr 1
    blk_ext [index1, row]
  · rw [norms_eq]
    pointwise

/-- The distances of a block's rows are those of the whole array's rows. -/
theorem dist_block (c : Dev nD) (t : Fin cfg0.N) (r : Fin 2048) :
    Block.dist (iblk m c 0 t) (iblk m c 2 t) (iblk m c 1 t) r = Spec.dist (argZ m c) (argC m c) (row t r) := by
  funext e
  unfold Block.dist Spec.dist
  simp only [blockZ, blockC, blockN]

/-! ## What one point leaves, as payloads of its blocks -/

/-- The first and the only other case of a point: the first point, or a later one. -/
theorem point_cases (t : Fin cfg0.N) : (t.val % 16 = 0 ∧ ¬1 ≤ t.val) ∨ (¬t.val % 16 = 0 ∧ 1 ≤ t.val) := by
  have := lt_of_lt_of_eq t.isLt (show cfg0.N = 16 from N_0)
  omega

/-- Point `t` leaves the first result's block at the kernel's payload. -/
theorem left_out (c : Dev nD) (t : Fin cfg0.N) :
    (outsAt0 m c t.val t.isLt).1
      = k0_pay2 (iblk m c 0 t) (Block.product (iblk m c 0 t) (iblk m c 2 t) (iblk m c 1 t)) (Scalar.ofBits .f32 0x3E800000#32) := by
  rcases point_cases t with ⟨h0, h1⟩ | ⟨h0, h1⟩
  · rw [outsAt0_A m c t h0 h1]; frame_out; rfl
  · rw [outsAt0_B m c t h0 h1]; frame_out; rfl

/-- Point `t` leaves the third result's block at the marks. -/
theorem left_hot (c : Dev nD) (t : Fin cfg0.N) :
    (outsAt0 m c t.val t.isLt).2.2 = Block.hot (iblk m c 0 t) (iblk m c 2 t) (iblk m c 1 t) := by
  rcases point_cases t with ⟨h0, h1⟩ | ⟨h0, h1⟩
  · rw [outsAt0_A m c t h0 h1]; frame_out; rfl
  · rw [outsAt0_B m c t h0 h1]; frame_out; rfl

/-- The block's sum of squared differences, as the kernel forms it. -/
def part (c : Dev nD) (t : Fin cfg0.N) : FVec Ideal S1x1 .f32 :=
  k0_pay3 (iblk m c 0 t) (Block.product (iblk m c 0 t) (iblk m c 2 t) (iblk m c 1 t)) (Scalar.ofBits .f32 0x3E800000#32)

/-- The first point stores its block's sum. -/
theorem left_sum_first (c : Dev nD) (t : Fin cfg0.N) (h0 : t.val % 16 = 0) (i : S1x1.Idx) :
    (outsAt0 m c t.val t.isLt).2.1 i = (fun _ => (0 : EReal)) i + part m c t i := by
  have h1 : ¬1 ≤ t.val := by rcases point_cases t with ⟨_, h1⟩ | ⟨h, _⟩ <;> [exact h1; exact absurd h0 h]
  refine Eq.trans ?_ (zero_add (part m c t i)).symm
  rw [outsAt0_A m c t h0 h1]; frame_out; rfl

/-- A later point adds its block's sum to what the point before left. -/
theorem left_sum_next (c : Dev nD) (t : Fin cfg0.N) (h0 : ¬t.val % 16 = 0) (i : S1x1.Idx) :
    (outsAt0 m c t.val t.isLt).2.1 i
      = (outsAt0 m c (t.val - 1) (Nat.lt_of_le_of_lt (Nat.sub_le _ _) t.isLt)).2.1 i + part m c t i := by
  have h1 : 1 ≤ t.val := by rcases point_cases t with ⟨h, _⟩ | ⟨_, h1⟩ <;> [exact absurd h h0; exact h1]
  refine Eq.trans ?_ (Block.pay4_of _ _ _ (outsAt0 m c (t.val - 1) (Nat.lt_of_le_of_lt (Nat.sub_le _ _) t.isLt)).2.1 i)
  rw [outsAt0_B m c t h0 h1]; frame_out; rfl

/-- The last point leaves the sum over all points. -/
theorem left_sum_last (c : Dev nD) (i : S1x1.Idx) :
    (outsAt0 m c t0_15.val t0_15.isLt).2.1 i = ∑ t : Fin cfg0.N, part m c t i := by
  rw [Pipeline.eq_sum_fin_of_reset_step_apply_last (fun n h => (outsAt0 m c n h).2.1) 16 (fun _ => (0 : EReal)) (part m c)
    (left_sum_first m c) (left_sum_next m c) (le_of_eq N_0) t0_15 rfl i]
  exact zero_add _

/-! ## The arrays after the run -/

/-- The whole grid's blocks of rows are the rows of the array: a sum over points and a block's rows is a sum over rows. -/
theorem sum_rows (f : Fin 32768 → EReal) : ∑ t : Fin cfg0.N, ∑ r : Fin 2048, f (row t r) = ∑ r : Fin 32768, f r :=
  Fin.sum_mul_add_fin 16 2048 f

variable (hd : ∀ c r e, Spec.dist (argZ m c) (argC m c) r e ≠ ⊤)
include hd

/-- No distance of a block is plus infinity. -/
theorem block_dist_ne (c : Dev nD) (t : Fin cfg0.N) (r : Fin 2048) (e : Fin 1024) :
    Block.dist (iblk m c 0 t) (iblk m c 2 t) (iblk m c 1 t) r e ≠ ⊤ := by
  rw [dist_block]; exact hd c _ _

/-- The marks of a block are those of the whole array's rows. -/
theorem hot_block (c : Dev nD) (t : Fin cfg0.N) (r : Fin 2048) (e : Fin 1024) :
    Block.hot (iblk m c 0 t) (iblk m c 2 t) (iblk m c 1 t) (ix2 r e) = Spec.hot (argZ m c) (argC m c) (row t r) e :=
  (Block.hot_apply _ _ _ (block_dist_ne m hd c t) r e).trans (by rw [dist_block]; rfl)

/-- The means of a block are those of the whole array's rows. -/
theorem quant_block (c : Dev nD) (t : Fin cfg0.N) (r : Fin 2048) (j : Fin 256) :
    Block.quant (iblk m c 0 t) (iblk m c 2 t) (iblk m c 1 t) r j = Spec.mean (argZ m c) (argC m c) (row t r) j :=
  congrArg (· * ((1 / 4 : ℝ) : EReal)) (Finset.sum_congr rfl fun e _ => congrArg₂ (· * ·) (hot_block m hd c t r e) (blockC m c t e j))

/-- A block's sum of squared differences is the sum over its rows. -/
theorem part_eq (c : Dev nD) (t : Fin cfg0.N) (i : S1x1.Idx) :
    part m c t i = ∑ r : Fin 2048, Spec.rowLoss (argZ m c) (argC m c) (row t r) :=
  (Block.pay3_apply _ _ _ i).trans (Finset.sum_congr rfl fun r _ => Finset.sum_congr rfl fun j _ =>
    congrArg₂ (fun a b : EReal => (a - b) * (a - b)) (quant_block m hd c t r j) (blockZ m c t r j))

/-- An entry of the first result's block is the entry of its row. -/
theorem out_block (c : Dev nD) (t : Fin cfg0.N) (y : S2048x256.Idx) (R : Fin 32768) (J : Fin 256) (hR : R = row t (y 0)) (hJ : J = y 1) :
    k0_pay2 (iblk m c 0 t) (Block.product (iblk m c 0 t) (iblk m c 2 t) (iblk m c 1 t)) (Scalar.ofBits .f32 0x3E800000#32) y
      = Spec.out (argZ m c) (argC m c) R J := by
  subst hR hJ
  idx_vars y
  exact (Block.pay2_apply _ _ _ _ _).trans
    (congrArg₂ (fun a b : EReal => b + (a - b)) (quant_block m hd c t _ _) (blockZ m c t _ _))

/-- The first result's array holds, at every row, the row plus its difference to the mean. -/
theorem final_out (c : Dev nD) :
    (dats m 0 c).arrAt 3 cfg0.N = (fun i => Spec.out (argZ m c) (argC m c) (i 0) (i 1) : FVec Ideal S32768x256 .f32) := by
  refine (dats m 0 c).arrAt_eq_of_covers 3 _ (by decide +kernel) fun t hf y => ?_
  blk_simp
  rw [after0_3, left_out]
  refine out_block m hd c t y _ _ (Fin.ext ?_) (Fin.ext ?_) <;> blk_simp [index3, row]

/-- An entry of the marks' block is the entry of its row. -/
theorem hot_at (c : Dev nD) (t : Fin cfg0.N) (y : S2048x1024.Idx) (R : Fin 32768) (E : Fin 1024) (hR : R = row t (y 0)) (hE : E = y 1) :
    Block.hot (iblk m c 0 t) (iblk m c 2 t) (iblk m c 1 t) y = Spec.hot (argZ m c) (argC m c) R E := by
  subst hR hE
  idx_vars y
  exact hot_block m hd c t _ _

/-- The third result's array holds the marks. -/
theorem final_hot (c : Dev nD) :
    (dats m 0 c).arrAt 5 cfg0.N = (fun i => Spec.hot (argZ m c) (argC m c) (i 0) (i 1) : FVec Ideal S32768x1024 .f32) := by
  refine (dats m 0 c).arrAt_eq_of_covers 5 _ (by decide +kernel) fun t hf y => ?_
  blk_simp
  rw [after0_5, left_hot]
  refine hot_at m hd c t y _ _ (Fin.ext ?_) (Fin.ext ?_) <;> blk_simp [index5, row]

/-- The array of the accumulated sum holds the sum over all rows. -/
theorem final_sum (c : Dev nD) :
    (dats m 0 c).arrAt 4 cfg0.N = (fun _ => Spec.loss (argZ m c) (argC m c) : FVec Ideal S1x1 .f32) := by
  refine (dats m 0 c).arrAt_eq_of_after_last 4 t0_15 (by decide +kernel) _ fun i => ?_
  blk_simp
  rw [after0_4]
  refine (left_sum_last m c _).trans ?_
  exact (Finset.sum_congr rfl fun t _ => part_eq m hd c t _).trans (sum_rows _)

omit hd in
/-- The second result is the accumulated sum, scaled. -/
theorem tail_eq (c : Dev nD) : Pipeline.afterTail₀ cfgs (dats m) 0 (V0 m) [hostOps1] c main_v0_1
    = (mulf (shapeCast S_ ((dats m 0 c).arrAt 4 cfg0.N : FVec Ideal S1x1 .f32) shapeCasts_S1x1_S_) (constant S_ .f32 0x34200000#32)
        : FVec Ideal S_ .f32) := by
  unfold Pipeline.afterTail₀
  show StableHlo.after hostOps1 _ _ = _
  after_results
  exact congrArg (fun X : FVec Ideal S1x1 .f32 => mulf (shapeCast S_ X shapeCasts_S1x1_S_) (constant S_ .f32 0x34200000#32))
    (Pipeline.withArrays_arr spec0 winFacts0.arr_inj c (V0 m c) (fun w => (dats m 0 c).arrAt w cfg0.N) 4)

/-- The second result is the loss over the whole array, scaled. -/
theorem final_scalar (c : Dev nD) : Pipeline.afterTail₀ cfgs (dats m) 0 (V0 m) [hostOps1] c main_v0_1
    = (fun _ => Spec.loss (argZ m c) (argC m c) * ((5 / 4 / 8388608 : ℝ) : EReal) : FVec Ideal S_ .f32) := by
  rw [tail_eq, final_sum m hd]
  funext i
  exact congrArg (Spec.loss (argZ m c) (argC m c) * ·) Literals.ofBits_scale

/-- Every run of the kernel's program ends with the three results at these functions of the arguments, the arguments unchanged. -/
theorem run : θ_run defs (onTc (τ := τ) (main (F := Ideal))) ⟨m, fun _ => 0, ρ⟩ (fun r => ∀ c : Dev nD,
      r.2.mem ((c.tc : Thread nD τ).loc main_v0_0) = (fun i => Spec.out (argZ m c) (argC m c) (i 0) (i 1) : FVec Ideal S32768x256 .f32)
      ∧ r.2.mem ((c.tc : Thread nD τ).loc main_v0_1)
          = (fun _ => Spec.loss (argZ m c) (argC m c) * ((5 / 4 / 8388608 : ℝ) : EReal) : FVec Ideal S_ .f32)
      ∧ r.2.mem ((c.tc : Thread nD τ).loc main_v0_2) = (fun i => Spec.hot (argZ m c) (argC m c) (i 0) (i 1) : FVec Ideal S32768x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 3).trans (final_out m hd c),
      ((h c).2 main_v0_1 (by decide)).trans (final_scalar m hd c),
      ((h c).1 5).trans (final_hot m hd c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c)))⟩)
    (run_main m ρ)

end Cert.Proof.Arrays

end
-- ==== Proof.Finite.lean ====
/-
  The precondition: both arguments are arrays of real numbers, and so is everything that sums, differences and products make of them.
-/
module

public import proofs.«01_k».proof.Pre_finite_arguments
public import proofs.«01_k».proof.Proof.Literals
public import proofs.«01_k».proof.Proof.Spec
public import Idealize.ShloMosaic.Lib.ReduceAll

@[expose] public section

set_option maxRecDepth 16384

noncomputable section

namespace Cert.Proof.Finite

open Idealize.ShloMosaic
open Cert.Proof.Selection

/-- The shape conditions of the precondition's operations hold. -/
theorem facts : Cert.Pre_finite_arguments.Facts where
  bcast_S_S32768x256 := by decide
  reducesTo_S32768x256_S_d0_1 := by decide
  h_S_ := by decide
  bcast_S_S1024x256 := by decide
  reducesTo_S1024x256_S_d0_1 := by decide

/-- An extended real that is a real number. -/
def IsReal (x : EReal) : Prop := ∃ a : ℝ, x = (a : EReal)

/-- A sum of two real numbers is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A difference of two real numbers is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A product of two real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is real. -/
theorem IsReal.sum {ι : Type} (s : Finset ι) {f : ι → EReal} (h : ∀ i, IsReal (f i)) : IsReal (∑ i ∈ s, f i) := by
  classical
  induction s using Finset.induction_on with
  | empty => exact ⟨0, by simp⟩
  | insert i s hi ih =>
    rw [Finset.sum_insert hi]
    exact (h i).add ih

/-- A mark is zero or one, a real number. -/
theorem marks_real {n : ℕ} (d : Fin n → EReal) (k : ℕ) (e : Fin n) : IsReal (marks d k e) := by
  unfold marks
  split
  · exact ⟨1, rfl⟩
  · exact ⟨0, rfl⟩

/-- An extended real whose absolute value is below infinity is real. -/
theorem real_of_abs (x : Ideal .f32) (h : FloatOps.cmpf (F := Ideal) (φ := .f32) .olt (FloatOps.absf x) (Ideal.ofBits .f32 0x7F800000#32) = 1#1) :
    IsReal x := by
  rw [Literals.ofBits_inf] at h
  have hlt : max x (-x) < (⊤ : EReal) := by
    by_contra hn
    exact absurd (h.symm.trans (show BitVec.ofBool (decide (max x (-x) < (⊤ : EReal))) = 0#1 by rw [decide_eq_false hn]; rfl)) (by decide)
  induction x using EReal.rec with
  | bot => exact absurd hlt (by simp)
  | top => exact absurd hlt (by simp)
  | coe a => exact ⟨a, rfl⟩

section

variable [Cert.Pre_finite_arguments.Facts]

/-- Under the precondition every entry of both arguments is a real number. -/
theorem real_arguments (z : FVec Ideal Cert.KernelIdeal.S32768x256 .f32) (cb : FVec Ideal Cert.KernelIdeal.S1024x256 .f32)
    (h : Cert.Pre_finite_arguments.fn (F := Ideal) z cb = fun _ => 1#1) : (∀ i, IsReal (z i)) ∧ ∀ i, IsReal (cb i) := by
  have h0 := congrFun h ix0
  obtain ⟨hz, hc⟩ := IntOp.andi_eq_one.1 h0
  haveI : Subsingleton (Cert.Pre_finite_arguments.S_).Idx := ⟨fun a b => funext fun i => i.elim0⟩
  exact ⟨fun i => real_of_abs _ (Host.reduce_andi_all _ _ _ _ _ hz i), fun i => real_of_abs _ (Host.reduce_andi_all _ _ _ _ _ hc i)⟩

end

variable (z : FVec Ideal Cert.KernelIdeal.S32768x256 .f32) (cb : FVec Ideal Cert.KernelIdeal.S1024x256 .f32)
  (hz : ∀ i, IsReal (z i)) (hc : ∀ i, IsReal (cb i))

include hz hc

/-- The distances are real. -/
theorem dist_real (r : Fin 32768) (e : Fin 1024) : IsReal (Spec.dist z cb r e) :=
  ((IsReal.sum _ fun _ => (hz _).mul (hz _)).sub (IsReal.mul ⟨2, rfl⟩ (IsReal.sum _ fun _ => (hz _).mul (hc _)))).add
    (IsReal.sum _ fun _ => (hc _).mul (hc _))

/-- No distance is plus infinity. -/
theorem dist_ne_top (r : Fin 32768) (e : Fin 1024) : Spec.dist z cb r e ≠ ⊤ := by
  obtain ⟨a, ha⟩ := dist_real z cb hz hc r e
  rw [ha]
  exact EReal.coe_ne_top a

omit hz in
/-- The means are real. -/
theorem mean_real (r : Fin 32768) (j : Fin 256) : IsReal (Spec.mean z cb r j) :=
  (IsReal.sum _ fun _ => (marks_real _ _ _).mul (hc _)).mul ⟨1 / 4, rfl⟩

/-- The loss is real. -/
theorem loss_real : IsReal (Spec.loss z cb) :=
  IsReal.sum _ fun _ => IsReal.sum _ fun _ =>
    ((mean_real z cb hc _ _).sub (hz _)).mul ((mean_real z cb hc _ _).sub (hz _))

/-- The squared differences taken the other way round sum to the same. -/
theorem loss_swap : (∑ r : Fin 32768, ∑ j : Fin 256, (z (ix2 r j) - Spec.mean z cb r j) * (z (ix2 r j) - Spec.mean z cb r j)) = Spec.loss z cb :=
  Finset.sum_congr rfl fun r _ => Finset.sum_congr rfl fun j _ => by
    obtain ⟨a, ha⟩ := hz (ix2 r j)
    obtain ⟨b, hb⟩ := mean_real z cb hc r j
    rw [ha, hb, ← EReal.coe_sub, ← EReal.coe_sub, ← EReal.coe_mul, ← EReal.coe_mul]
    exact congrArg Real.toEReal (by ring)

/-- The two weighted means of the squared differences together are five quarters of one. -/
theorem loss_weights : Spec.loss z cb * ((1 / 8388608 : ℝ) : EReal) + ((1 / 4 : ℝ) : EReal) * (Spec.loss z cb * ((1 / 8388608 : ℝ) : EReal))
    = Spec.loss z cb * ((5 / 4 / 8388608 : ℝ) : EReal) := by
  obtain ⟨a, ha⟩ := loss_real z cb hz hc
  rw [ha, ← EReal.coe_mul, ← EReal.coe_mul, ← EReal.coe_mul, ← EReal.coe_add]
  exact congrArg Real.toEReal (by ring)

end Cert.Proof.Finite

end
-- ==== Proof.Indices.lean ====
/-
  The reference's index operations read at an index: the positions of the greatest entries of a row, rows gathered by those positions, and ones scattered to
  them.
-/
module

public import proofs.«01_k».proof.Proof.Selection
public import Idealize.ShloMosaic.Lib.Pointwise
public import Idealize.ShloMosaic.Lib.Pointwise.IndexBridge
public import Idealize.ShloMosaic.Lib.Routing.OpsSet
public import Idealize.ShloMosaic.Lib.Routing.OpsPair

@[expose] public section

set_option maxRecDepth 16384

noncomputable section

namespace Cert.Proof.Indices

open Idealize.ShloMosaic
open Cert.Proof.Selection

/-- A fiber position of a matrix along its columns. -/
theorem along_ix2 {R N : Nat} (r : Fin R) (c e : Fin N) : (ix2 r c).along (1 : Fin 2) e = ix2 r e := by
  funext a
  match a with
  | ⟨0, _⟩ => rfl
  | ⟨1, _⟩ => rfl

/-- Negated extended reals compare the other way round. -/
theorem gt_neg (a b : EReal) : (FloatOps.cmpfTotal (F := Ideal) (φ := .f32) .gt (-a) (-b) == 1#1) = true ↔ a < b := by
  show ((BitVec.ofBool (decide (-b < -a))) == 1#1) = true ↔ a < b
  rw [← EReal.neg_lt_neg_iff (a := b) (b := a)]
  by_cases h : -b < -a <;> simp [h]

/-- The position of the `i`-th greatest of the negated entries of a row is the column of the `i`-th smallest entry. -/
theorem topK_index {R N k : Nat} (x : FVec Ideal ⟨2, ![R, N]⟩ .f32) (h : (⟨2, ![R, N]⟩ : Shape).Slices (fun _ => 0) ⟨2, ![R, k]⟩) (hk : k ≤ N)
    (r : Fin R) (i : Fin k) :
    (Host.topK ⟨2, ![R, k]⟩ 1 (FloatOps.cmpfTotal .gt) (Host.negf x) h).2 (ix2 r i)
      = BitVec.ofNat 32 (pick (fun e => x (ix2 r e)) (i.castLE hk)).val := by
  have hj : (fun a => ⟨0 + (ix2 r i (a.cast h.1.symm)).val, Nat.lt_of_lt_of_le (Nat.add_lt_add_left (ix2 r i _).isLt _) (h.2 a)⟩ :
      (⟨2, ![R, N]⟩ : Shape).Idx) = ix2 r (i.castLE hk) := by
    funext a
    match a with
    | ⟨0, _⟩ => exact Fin.ext (Nat.zero_add _)
    | ⟨1, _⟩ => exact Fin.ext (Nat.zero_add _)
  unfold Host.topK Host.sort2 extractStridedSlice
  dsimp only
  rw [hj]
  refine congrArg (fun e : Fin N => BitVec.ofNat 32 e.val) (sortedFrom_eq_pick (d := fun e => x (ix2 r e))
    (B := fun a b : Fin N => FloatOps.cmpfTotal (F := Ideal) (φ := .f32) .gt (-(x ((ix2 r (i.castLE hk)).along (1 : Fin 2) a)))
      (-(x ((ix2 r (i.castLE hk)).along (1 : Fin 2) b))) == 1#1) (fun a b => ?_) (i.castLE hk))
  rw [along_ix2, along_ix2]
  exact gt_neg _ _

/-- Whole rows of a matrix taken at one index word for each pair. -/
abbrev takeRows (N D R K : Nat) (wf : GatherDims.WF ⟨2, ![N, D]⟩ ⟨3, ![R, K, 1]⟩ ⟨3, ![R, K, D]⟩ [2] [0] [] [0] [] 2 ![1, D]) :
    GatherDims ⟨2, ![N, D]⟩ ⟨3, ![R, K, 1]⟩ ⟨3, ![R, K, D]⟩ where
  offsetDims := [2]
  collapsedSliceDims := [0]
  operandBatchingDims := []
  startIndicesBatchingDims := []
  startIndexMap := [0]
  indexVectorDim := 2
  sliceSizes := ![1, D]
  wf := wf

/-- A gathered entry is the one at the row that the index word names, when that row exists. -/
theorem gather_rows {α : Type} {N D R K : Nat} (wf : GatherDims.WF ⟨2, ![N, D]⟩ ⟨3, ![R, K, 1]⟩ ⟨3, ![R, K, D]⟩ [2] [0] [] [0] [] 2 ![1, D])
    (x : (⟨2, ![N, D]⟩ : Shape).Idx → α) (idx : IVec ⟨3, ![R, K, 1]⟩ 32) (r : Fin R) (i : Fin K) (j : Fin D) (e : Fin N)
    (he : (idx (ix3 r i 0)).toInt = e.val) : Host.gather (takeRows N D R K wf) x idx (ix3 r i j) = x (ix2 e j) := by
  unfold Host.gather
  congr 1
  funext a
  refine Fin.ext ?_
  show (takeRows N D R K wf).start (ix3 r i j) idx a + (takeRows N D R K wf).batchCoord (ix3 r i j) a + (takeRows N D R K wf).offCoord (ix3 r i j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ (takeRows N D R K wf).startIndexMap from List.mem_singleton.mpr rfl)]
    have hsi : (takeRows N D R K wf).siIdx (ix3 r i j) ⟨List.idxOf (⟨0, by decide⟩ : Fin 2) (takeRows N D R K wf).startIndexMap,
        List.idxOf_lt_length_iff.2 (List.mem_singleton.mpr rfl)⟩ = ix3 r i 0 := by
      funext b
      match b with
      | ⟨0, _⟩ => rfl
      | ⟨1, _⟩ => rfl
      | ⟨2, _⟩ => rfl
    rw [hsi, he]
    show min ((e.val : Int).toNat) (N - 1) + 0 + 0 = e.val
    have := e.isLt
    omega
  | ⟨1, _⟩ =>
    unfold GatherDims.start
    rw [dif_neg (show ¬ (⟨1, by decide⟩ : Fin 2) ∈ (takeRows N D R K wf).startIndexMap from fun h => absurd (List.mem_singleton.mp h) (by simp))]
    exact (Nat.zero_add _).trans rfl

/-- A small number as a word, read signed. -/
theorem toInt_ofNat (n : Nat) (h : n < 2 ^ 31) : (BitVec.ofNat 32 n).toInt = n := by
  rw [BitVec.toInt_eq_toNat_of_lt (by rw [BitVec.toNat_ofNat]; omega), BitVec.toNat_ofNat, Nat.mod_eq_of_lt (by omega)]

/-- A small number as a word is not wrapped around. -/
theorem wrap_ofNat (n : Nat) (h : n < 2 ^ 31) (a : BitVec 32) : Scalar.select (IntOp.cmpi .slt (BitVec.ofNat 32 n) 0#32) a (BitVec.ofNat 32 n) = BitVec.ofNat 32 n :=
  Routing.wrap_of_lt _ _ (by rw [BitVec.toNat_ofNat]; omega)

/-- Ones scattered into an array of zeros, at the row and column words of each pair, where the row word of a pair is its own row: an entry is one exactly when some
    pair of its row has its column. -/
theorem scatter_ones {R C K : Nat} (d : ScatterDims ⟨2, ![R, C]⟩ ⟨3, ![R, K, 2]⟩ ⟨2, ![R, K]⟩) (hiw : d.insertedWindowDims = [0, 1])
    (hsd : d.scatterDimsToOperandDims = [0, 1]) (hivd : d.indexVectorDim = 2) (x0 : (⟨2, ![R, C]⟩ : Shape).Idx → EReal)
    (idx : IVec ⟨3, ![R, K, 2]⟩ 32) (upd : (⟨2, ![R, K]⟩ : Shape).Idx → EReal) (p : Fin R → Fin K → Fin C)
    (h0 : ∀ i, x0 i = 0) (h1 : ∀ i, upd i = 1)
    (hrow : ∀ a b, (idx (ix3 a b 0)).toInt = a.val) (hcol : ∀ a b, (idx (ix3 a b 1)).toInt = (p a b).val) (r : Fin R) (c : Fin C) :
    Host.scatter d (fun _ b => b) x0 idx upd (ix2 r c) = if ∃ b, c = p r b then 1 else 0 := by
  have key : ∀ a b, d.resultIdx? (ix2 a b) idx = some (ix2 r c) ↔ a = r ∧ c = p r b := fun a b => by
    rw [ix2_eq_valueIdx, ix2_eq_valueIdx]
    refine (Routing.scatter_lands2 d hiw hsd hivd idx a b r c).trans ?_
    rw [← ix3_eq_valueIdx, ← ix3_eq_valueIdx, hrow, hcol]
    constructor
    · rintro ⟨h, h'⟩
      obtain rfl : a = r := Fin.ext (by omega)
      exact ⟨rfl, Fin.ext (by omega)⟩
    · rintro ⟨rfl, h⟩
      exact ⟨rfl, by rw [h]⟩
  by_cases hb : ∃ b, c = p r b
  · rw [if_pos hb]
    obtain ⟨b, hb⟩ := hb
    exact Routing.scatter_set_hit d x0 idx upd _ 1 (fun k _ => h1 k) (ix2 r b) ((key r b).2 ⟨rfl, hb⟩)
  · rw [if_neg hb, Routing.scatter_set_miss d x0 idx upd _ fun k hk => ?_]
    · exact h0 _
    · rw [eq_ix2 k] at hk
      exact hb ⟨_, ((key _ _).1 hk).2⟩

end Cert.Proof.Indices

end
-- ==== Proof.Reference.lean ====
/-
  What the three results of the reference hold, as functions of the arguments: the arrays it goes through, each read at an index.
-/
module

public import proofs.«01_k».proof.Proof.Gen.ReferenceIdeal.Run
public import proofs.«01_k».proof.Proof.Indices
public import proofs.«01_k».proof.Proof.Literals
public import proofs.«01_k».proof.Proof.Spec
public import Idealize.ShloMosaic.Lib.Tactic.CleanTypes

@[expose] public section

set_option maxRecDepth 16384

noncomputable section

namespace Cert.Proof.Reference

open Cert.ReferenceIdeal Cert.ReferenceIdeal.Gen Idealize.ShloMosaic Idealize.ShloMosaic.TcCoe Idealize.SL.Sem
open Cert.Proof.Selection

variable (z : FVec Ideal S32768x256 .f32) (cb : FVec Ideal S1024x256 .f32)

/-- The squared distances of all rows to all codes. -/
def distances : FVec Ideal S32768x1024 .f32 :=
  addf (subf (broadcastInDim S32768x1024 ![0, 1] bcast_S32768x1_S32768x1024_0_1 (broadcastInDim S32768x1 ![0] bcast_S32768_S32768x1_0
      (Host.reduceAdd (mulf z z) (constant S_ .f32 0x00000000#32) reducesTo_S32768x256_S32768_d1 h_S_)))
    (mulf (broadcastInDim S32768x1024 ![] bcast_S_S32768x1024 (constant S_ .f32 0x40000000#32))
      (Host.dotGeneral dot_S32768x256_S256x1024_S32768x1024_1_0_0_1_n_n none z (transpose S256x1024 [1, 0] cb transposes_S1024x256_S256x1024_1_0))))
    (broadcastInDim S32768x1024 ![0, 1] bcast_S1x1024_S32768x1024_0_1 (broadcastInDim S1x1024 ![1] bcast_S1024_S1x1024_1
      (Host.reduceAdd (mulf cb cb) (constant S_ .f32 0x00000000#32) reducesTo_S1024x256_S1024_d1 h_S_)))

/-- The codes at the four smallest distances of each row, as words. -/
def nearest (D : FVec Ideal S32768x1024 .f32) : IVec S32768x4 32 :=
  (Host.topK S32768x4 1 (FloatOps.cmpfTotal .gt) (Host.negf D) sliceFits_S32768x1024_S32768x4).2

/-- The words with the negative ones counted from the end, one trailing axis added. -/
def wrapped (I : IVec S32768x4 32) : IVec S32768x4x1 32 :=
  broadcastInDim S32768x4x1 ![0, 1] bcast_S32768x4_S32768x4x1_0_1
    (select (cmpi .slt I (broadcastInDim S32768x4 ![] bcast_S_S32768x4 (constantI S_ 32 0#32)))
      (addi I (broadcastInDim S32768x4 ![] bcast_S_S32768x4 (constantI S_ 32 1024#32))) I)

/-- The row numbers as words, one column. -/
def rowWords : IVec S32768x1 32 := broadcastInDim S32768x1 ![0] bcast_S32768_S32768x1_0 (iotaInDim S32768 32 0)

/-- The row number of each pair, treated as `wrapped` treats the codes. -/
def rows : IVec S32768x4x1 32 :=
  broadcastInDim S32768x4x1 ![0, 1] bcast_S32768x4_S32768x4x1_0_1 (broadcastInDim S32768x4 ![0, 1] bcast_S32768x1_S32768x4_0_1
    (select (cmpi .slt rowWords (broadcastInDim S32768x1 ![] bcast_S_S32768x1 (constantI S_ 32 0#32)))
      (addi rowWords (broadcastInDim S32768x1 ![] bcast_S_S32768x1 (constantI S_ 32 32768#32))) rowWords))

/-- The row and the code of each pair. -/
def places (W : IVec S32768x4x1 32) : IVec S32768x4x2 32 :=
  concatenate S32768x4x2 2 [⟨S32768x4x1, rows⟩, ⟨S32768x4x1, W⟩] concatenates_S32768x4x1_S32768x4x1_S32768x4x2_d2

/-- Ones at the places, zeros elsewhere. -/
def hots (W : IVec S32768x4x1 32) : FVec Ideal S32768x1024 .f32 :=
  Host.scatter scatter_S32768x1024_S32768x4x2_S32768x4_n_01_01_2 (fun _ b => b)
    (broadcastInDim S32768x1024 ![] bcast_S_S32768x1024 (constant S_ .f32 0x00000000#32)) (places W)
    (broadcastInDim S32768x4 ![] bcast_S_S32768x4 (constant S_ .f32 0x3F800000#32))

/-- Whether each word names a code, as bits with a unit axis. -/
def inRange (W : IVec S32768x4x1 32) : IVec S32768x4x1 1 :=
  andi (cmpi .sge W (broadcastInDim S32768x4x1 ![] bcast_S_S32768x4x1 (constantI S_ 32 0#32)))
    (cmpi .sle W (broadcastInDim S32768x4x1 ![0, 1, 2] bcast_S1x1x1_S32768x4x1_0_1_2 (broadcastInDim S1x1x1 ![2] bcast_S1_S1x1x1_2 (constantI S1 32 1023#32))))

/-- The codes that the words name, where they name one. -/
def taken (W : IVec S32768x4x1 32) : FVec Ideal S32768x4x256 .f32 :=
  select (broadcastInDim S32768x4x256 ![0, 1] bcast_S32768x4_S32768x4x256_0_1
      (Host.reduce IntOp.andi (inRange W) (constantI S_ 1 1#1) reducesTo_S32768x4x1_S32768x4_d2 h_S_))
    (Host.gather gather_S1024x256_S32768x4x1_S32768x4x256_2_0_n_n_0_2_1256 cb W)
    (broadcastInDim S32768x4x256 ![] bcast_S_S32768x4x256 (constant S_ .f32 0x7FC00000#32))

/-- The mean of four taken codes. -/
def meanOf (T : FVec Ideal S32768x4x256 .f32) : FVec Ideal S32768x256 .f32 :=
  Host.divf (Host.reduceAdd T (constant S_ .f32 0x00000000#32) reducesTo_S32768x4x256_S32768x256_d1 h_S_)
    (broadcastInDim S32768x256 ![] bcast_S_S32768x256 (constant S_ .f32 0x40800000#32))

/-- The mean of the squares of an array. -/
def meanSquare (X : FVec Ideal S32768x256 .f32) : FVec Ideal S_ .f32 :=
  Host.divf (Host.reduceAdd (mulf X X) (constant S_ .f32 0x00000000#32) reducesTo_S32768x256_S_d0_1 h_S_) (constant S_ .f32 0x4B000000#32)

/-- The words of the nearest codes. -/
def words : IVec S32768x4x1 32 := wrapped (nearest (distances z cb))

/-- The means of the nearest codes. -/
def means : FVec Ideal S32768x256 .f32 := meanOf (taken cb (words z cb))

variable (m : (ℓ : Loc nD τ sig) → Buf (Elt Ideal) ℓ)

/-- The first argument on device `c`. -/
abbrev argZ (c : Dev nD) : FVec Ideal S32768x256 .f32 := m ((c.tc : Thread nD τ).loc main_arg0)
/-- The codebook on device `c`. -/
abbrev argC (c : Dev nD) : FVec Ideal S1024x256 .f32 := m ((c.tc : Thread nD τ).loc main_arg1)

/-- The first result, by these names. -/
theorem out0 (c : Dev nD) : Value.res_out0 m c = addf (argZ m c) (subf (means (argZ m c) (argC m c)) (argZ m c)) := by
  rfl

/-- The second result, by these names. -/
theorem out1 (c : Dev nD) : Value.res_out1 m c = addf (meanSquare (subf (means (argZ m c) (argC m c)) (argZ m c)))
    (mulf (constant S_ .f32 0x3E800000#32) (meanSquare (subf (argZ m c) (means (argZ m c) (argC m c))))) := by
  rfl

/-- The third result, by these names. -/
theorem out2 (c : Dev nD) : Value.res_out2 m c = hots (words (argZ m c) (argC m c)) := by
  rfl

/-- A distance, as the specification has it. -/
theorem distances_apply (r : Fin 32768) (e : Fin 1024) : distances z cb (ix2 r e) = Spec.dist z cb r e := by
  unfold distances Spec.dist
  pointwise
  rw [Literals.ofBits_two]

/-- The words of the nearest codes, as the specification orders them. -/
theorem words_apply (r : Fin 32768) (i : Fin 4) :
    words z cb (ix3 r i 0) = BitVec.ofNat 32 (pick (Spec.dist z cb r) (i.castLE (by decide : 4 ≤ 1024))).val := by
  have hn : nearest (distances z cb) (ix2 r i) = BitVec.ofNat 32 (pick (Spec.dist z cb r) (i.castLE (by decide : 4 ≤ 1024))).val :=
    (Indices.topK_index (distances z cb) sliceFits_S32768x1024_S32768x4 (by decide) r i).trans
      (congrArg (fun d => BitVec.ofNat 32 (pick d (i.castLE (by decide : 4 ≤ 1024))).val) (funext fun e => distances_apply z cb r e))
  have hw : ∀ I : IVec S32768x4 32, wrapped I (ix3 r i 0)
      = Scalar.select (IntOp.cmpi .slt (I (ix2 r i)) 0#32) (I (ix2 r i) + 1024#32) (I (ix2 r i)) := fun I => by
    unfold wrapped
    pointwise
    rfl
  unfold words
  rw [hw, hn]
  exact Indices.wrap_ofNat _ (by have := (pick (Spec.dist z cb r) (i.castLE (by decide : 4 ≤ 1024))).isLt; omega) _

/-- The row words of the pairs. -/
theorem rows_apply (r : Fin 32768) (i : Fin 4) : rows (ix3 r i 0) = BitVec.ofNat 32 r.val := by
  have hw : rows (ix3 r i 0)
      = Scalar.select (IntOp.cmpi .slt (BitVec.ofNat 32 r.val) 0#32) (BitVec.ofNat 32 r.val + 32768#32) (BitVec.ofNat 32 r.val) := by
    unfold rows rowWords
    pointwise
    rfl
  rw [hw]
  exact Indices.wrap_ofNat _ (by have := r.isLt; omega) _

/-- The first word of a place is the row's number. -/
theorem places_row (W : IVec S32768x4x1 32) (r : Fin 32768) (i : Fin 4) : places W (ix3 r i 0) = rows (ix3 r i 0) := by
  unfold places
  pointwise

/-- The second word of a place is the code's. -/
theorem places_code (W : IVec S32768x4x1 32) (r : Fin 32768) (i : Fin 4) : places W (ix3 r i 1) = W (ix3 r i 0) := by
  unfold places
  pointwise

/-- The mean of four taken codes is a quarter of their sum. -/
theorem meanOf_apply (T : FVec Ideal S32768x4x256 .f32) (r : Fin 32768) (j : Fin 256) :
    meanOf T (ix2 r j) = (∑ i : Fin 4, T (ix3 r i j)) * ((1 / 4 : ℝ) : EReal) := by
  unfold meanOf
  pointwise
  rw [Literals.ofBits_four]
  exact Ideal.div_coe (by norm_num) _

/-- The mean of squares is the sum of squares times the reciprocal of their number. -/
theorem meanSquare_apply (X : FVec Ideal S32768x256 .f32) (i : S_.Idx) :
    meanSquare X i = (∑ r : Fin 32768, ∑ j : Fin 256, X (ix2 r j) * X (ix2 r j)) * ((1 / 8388608 : ℝ) : EReal) := by
  unfold meanSquare
  pointwise
  rw [Literals.ofBits_entries]
  exact Ideal.div_coe (by norm_num) _

/-- The word of a code passes the range check. -/
theorem inRange_ofNat : ∀ e : Fin 1024, IntOp.andi (IntOp.andi (IntOp.cmpi .sge (BitVec.ofNat 32 e.val) 0#32)
    (IntOp.cmpi .sle (BitVec.ofNat 32 e.val) 1023#32)) 1#1 = 1#1 := by
  decide +kernel

/-- Where a word names a code, the taken row is that code. -/
theorem taken_apply (W : IVec S32768x4x1 32) (r : Fin 32768) (i : Fin 4) (j : Fin 256) (e : Fin 1024) (h : W (ix3 r i 0) = BitVec.ofNat 32 e.val) :
    taken cb W (ix3 r i j) = cb (ix2 e j) := by
  have hs : taken cb W (ix3 r i j) = Scalar.select (IntOp.andi (IntOp.andi (IntOp.cmpi .sge (W (ix3 r i 0)) 0#32) (IntOp.cmpi .sle (W (ix3 r i 0)) 1023#32)) 1#1)
      (Host.gather gather_S1024x256_S32768x4x1_S32768x4x256_2_0_n_n_0_2_1256 cb W (ix3 r i j)) (Ideal.ofBits .f32 2143289344#32) := by
    unfold taken inRange
    pointwise
    rw [Finset.univ_unique, Finset.fold_singleton]
    rfl
  rw [hs, h, inRange_ofNat]
  refine (show Scalar.select (1#1) _ _ = _ from rfl).trans
    (Indices.gather_rows gather_S1024x256_S32768x4x1_S32768x4x256_2_0_n_n_0_2_1256_wf cb W r i j e ?_)
  rw [h]
  exact Indices.toInt_ofNat _ (by have := e.isLt; omega)

/-- The third result is the specification's. -/
theorem hots_apply (r : Fin 32768) (e : Fin 1024) : hots (words z cb) (ix2 r e) = Spec.hot z cb r e := by
  unfold hots Spec.hot
  refine (Indices.scatter_ones scatter_S32768x1024_S32768x4x2_S32768x4_n_01_01_2 rfl rfl rfl (fun _ => Ideal.ofBits .f32 0x00000000#32) _
    (fun _ => Ideal.ofBits .f32 0x3F800000#32)
    (fun r i => pick (Spec.dist z cb r) (i.castLE (by decide : 4 ≤ 1024))) (fun _ => Ideal.ofBits_zero_f32) (fun _ => Ideal.ofBits_one_f32)
    (fun a b => ?_) (fun a b => ?_) r e).trans (by rw [marks_eq _ (by decide)]; congr)
  · rw [places_row, rows_apply]
    exact Indices.toInt_ofNat _ (by have := a.isLt; omega)
  · rw [places_code, words_apply]
    exact Indices.toInt_ofNat _ (by have := (pick (Spec.dist z cb a) (b.castLE (by decide : 4 ≤ 1024))).isLt; omega)

/-- The means are the specification's. -/
theorem means_apply (r : Fin 32768) (j : Fin 256) : means z cb (ix2 r j) = Spec.mean z cb r j := by
  unfold means Spec.mean Spec.hot
  rw [meanOf_apply, sum_marks_mul _ (by decide) fun e => cb (ix2 e j)]
  exact congrArg (· * ((1 / 4 : ℝ) : EReal)) (Finset.sum_congr rfl fun i _ => taken_apply cb _ r i j _ (words_apply z cb r i))

/-- The first result at an index. -/
theorem out0_apply (c : Dev nD) (r : Fin 32768) (j : Fin 256) : Value.res_out0 m c (ix2 r j) = Spec.out (argZ m c) (argC m c) r j := by
  rw [out0]
  exact congrArg (fun x => argZ m c (ix2 r j) + (x - argZ m c (ix2 r j))) (means_apply _ _ r j)

/-- The second result, as two sums of squares. -/
theorem out1_apply (c : Dev nD) (i : S_.Idx) : Value.res_out1 m c i
    = Spec.loss (argZ m c) (argC m c) * ((1 / 8388608 : ℝ) : EReal)
      + ((1 / 4 : ℝ) : EReal) * ((∑ r : Fin 32768, ∑ j : Fin 256, (argZ m c (ix2 r j) - Spec.mean (argZ m c) (argC m c) r j)
        * (argZ m c (ix2 r j) - Spec.mean (argZ m c) (argC m c) r j)) * ((1 / 8388608 : ℝ) : EReal)) := by
  rw [out1]
  refine congrArg₂ (fun x y : EReal => x + y) ?_ (congrArg₂ (fun x y : EReal => x * y) Literals.ofBits_quarter ?_)
  · refine (meanSquare_apply _ i).trans (congrArg (fun x : EReal => x * ((1 / 8388608 : ℝ) : EReal)) ?_)
    exact Finset.sum_congr rfl fun r _ => Finset.sum_congr rfl fun j _ =>
      congrArg (fun x : EReal => (x - argZ m c (ix2 r j)) * (x - argZ m c (ix2 r j))) (means_apply _ _ r j)
  · refine (meanSquare_apply _ i).trans (congrArg (fun x : EReal => x * ((1 / 8388608 : ℝ) : EReal)) ?_)
    exact Finset.sum_congr rfl fun r _ => Finset.sum_congr rfl fun j _ =>
      congrArg (fun x : EReal => (argZ m c (ix2 r j) - x) * (argZ m c (ix2 r j) - x)) (means_apply _ _ r j)

/-- The third result at an index. -/
theorem out2_apply (c : Dev nD) (r : Fin 32768) (e : Fin 1024) : Value.res_out2 m c (ix2 r e) = Spec.hot (argZ m c) (argC m c) r e := by
  rw [out2]
  exact hots_apply _ _ r e

end Cert.Proof.Reference

end
-- ==== Proof.Equation.lean ====
/-
  The equation: with the arguments of the kernel's program and of the reference equal and finite, the reference's three results are what the kernel's hold.
-/
module

public import proofs.«01_k».proof.Proof.Arrays
public import proofs.«01_k».proof.Proof.Finite
public import proofs.«01_k».proof.Proof.Reference

@[expose] public section

set_option maxRecDepth 16384

noncomputable section

namespace Cert.Proof.Equation

open Idealize.ShloMosaic Idealize.ShloMosaic.TcCoe

variable (m : (ℓ : Loc Cert.ReferenceIdeal.nD Cert.ReferenceIdeal.τ Cert.ReferenceIdeal.sig) → Buf (Elt Ideal) ℓ)
  (c : Dev Cert.ReferenceIdeal.nD)
  (z : FVec Ideal Cert.KernelIdeal.S32768x256 .f32) (cb : FVec Ideal Cert.KernelIdeal.S1024x256 .f32)
  (h0 : Reference.argZ m c = z) (h1 : Reference.argC m c = cb)

include h0 h1

/-- The first results agree. -/
theorem first : Cert.ReferenceIdeal.Value.res_out0 m c = (fun i => Spec.out z cb (i 0) (i 1) : FVec Ideal Cert.KernelIdeal.S32768x256 .f32) := by
  subst h0 h1
  funext i
  exact (congrArg _ (eq_ix2 i)).trans (Reference.out0_apply m c (i 0) (i 1))

/-- The second results agree, the arguments finite. -/
theorem second (hz : ∀ i, Finite.IsReal (z i)) (hc : ∀ i, Finite.IsReal (cb i)) : Cert.ReferenceIdeal.Value.res_out1 m c
    = (fun _ => Spec.loss z cb * ((5 / 4 / 8388608 : ℝ) : EReal) : FVec Ideal Cert.KernelIdeal.S_ .f32) := by
  subst h0 h1
  funext i
  refine (Reference.out1_apply m c i).trans ?_
  rw [Finite.loss_swap _ _ hz hc]
  exact Finite.loss_weights _ _ hz hc

/-- The third results agree. -/
theorem third : Cert.ReferenceIdeal.Value.res_out2 m c = (fun i => Spec.hot z cb (i 0) (i 1) : FVec Ideal Cert.KernelIdeal.S32768x1024 .f32) := by
  subst h0 h1
  funext i
  exact (congrArg _ (eq_ix2 i)).trans (Reference.out2_apply m c (i 0) (i 1))

end Cert.Proof.Equation

end
-- ==== Proof.lean ====
/-
  The certificate: the programs run and leave their arguments unchanged and every semaphore at zero, and the three results of the kernel's program and of the
  reference are equal on finite arguments.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equation
public import Idealize.ShloMosaic.Lib.Quiescent

@[expose] public section

noncomputable section

namespace Cert.Proof

open Idealize.ShloMosaic Idealize.SL.Sem

/-- The reference runs, leaves its arguments unchanged, and ends with every semaphore at zero: it has none. -/
theorem reference_frame : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- On finite arguments that agree, the results of the kernel's program and of the reference are equal. -/
theorem values : Cert.algebraic_KernelIdeal_ReferenceIdeal_pre_finite_arguments (hKernelIdeal := Cert.KernelIdeal.Gen.facts)
    (hReferenceIdeal := Cert.ReferenceIdeal.Gen.facts) (hPre_finite_arguments := Finite.facts) := by
  intro m g m' g' hpre hargs
  haveI := Finite.facts
  have hreal := fun c => Finite.real_arguments (Arrays.argZ m c) (Arrays.argC m c) (hpre c)
  refine ⟨fun c => (fun i => Spec.out (Arrays.argZ m c) (Arrays.argC m c) (i 0) (i 1) : FVec Ideal Cert.KernelIdeal.S32768x256 .f32),
    fun c => (fun _ => Spec.loss (Arrays.argZ m c) (Arrays.argC m c) * ((5 / 4 / 8388608 : ℝ) : EReal) : FVec Ideal Cert.KernelIdeal.S_ .f32),
    fun c => (fun i => Spec.hot (Arrays.argZ m c) (Arrays.argC m c) (i 0) (i 1) : FVec Ideal Cert.KernelIdeal.S32768x1024 .f32),
    Arrays.run m g fun c r e => Finite.dist_ne_top _ _ (hreal c).1 (hreal c).2 r e,
    (θ_run Cert.ReferenceIdeal.defs _ _).mono (fun r h c => ?_) (Cert.ReferenceIdeal.Value.run (F := Ideal) m' g')⟩
  obtain ⟨e0, e1, e2, ea⟩ := h c
  obtain ⟨a0, a1⟩ := hargs c
  exact ⟨e0.trans (Equation.first m' c _ _ a0 a1), e1.trans (Equation.second m' c _ _ a0 a1 (hreal c).1 (hreal c).2),
    e2.trans (Equation.third m' c _ _ a0 a1), ea⟩

/-- Everything the certificate claims. -/
theorem claim : Cert.Claim :=
  ⟨Cert.Kernel.Gen.facts, Cert.KernelIdeal.Gen.facts, Cert.ReferenceIdeal.Gen.facts, Finite.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    values⟩

end Cert.Proof

end
